-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_mask_is_off_or_one [hPre_mask_is_off_or_one : Cert.Pre_mask_is_off_or_one.Facts] (m : (ℓ : Loc Cert.KernelIdeal.nD Cert.KernelIdeal.τ Cert.KernelIdeal.sig) → Buf (Elt Ideal) ℓ) : Prop :=
  ∀ c : Dev Cert.KernelIdeal.nD,
    (Cert.Pre_mask_is_off_or_one.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_mask_is_off_or_one [hPre_mask_is_off_or_one : Cert.Pre_mask_is_off_or_one.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_mask_is_off_or_one.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_mask_is_off_or_one [hKernelIdeal : Cert.KernelIdeal.Facts] [hPre_mask_is_off_or_one : Cert.Pre_mask_is_off_or_one.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_mask_is_off_or_one m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_mask_is_off_or_one [hReferenceIdeal : Cert.ReferenceIdeal.Facts] [hPre_mask_is_off_or_one : Cert.Pre_mask_is_off_or_one.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_mask_is_off_or_one m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_mask_is_off_or_one [hKernelIdeal : Cert.KernelIdeal.Facts] [hReferenceIdeal : Cert.ReferenceIdeal.Facts] [hPre_mask_is_off_or_one : Cert.Pre_mask_is_off_or_one.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_mask_is_off_or_one m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_mask_is_off_or_one : Cert.Pre_mask_is_off_or_one.Facts),
    quiescent_Kernel (hKernel := hKernel)
    ∧ quiescent_KernelIdeal (hKernelIdeal := hKernelIdeal)
    ∧ quiescent_KernelIdeal_pre_mask_is_off_or_one (hKernelIdeal := hKernelIdeal) (hPre_mask_is_off_or_one := hPre_mask_is_off_or_one)
    ∧ quiescent_ReferenceIdeal (hReferenceIdeal := hReferenceIdeal)
    ∧ quiescent_ReferenceIdeal_pre_mask_is_off_or_one (hReferenceIdeal := hReferenceIdeal) (hPre_mask_is_off_or_one := hPre_mask_is_off_or_one)
    ∧ preserves_Kernel_KernelIdeal
    ∧ algebraic_KernelIdeal_ReferenceIdeal_pre_mask_is_off_or_one (hKernelIdeal := hKernelIdeal) (hReferenceIdeal := hReferenceIdeal) (hPre_mask_is_off_or_one := hPre_mask_is_off_or_one)
-- ==== Pre_mask_is_off_or_one.lean ====
abbrev S8192x2048 : Shape := ⟨2, ![8192, 2048]⟩
abbrev S2048x64 : Shape := ⟨2, ![2048, 64]⟩
abbrev S64 : Shape := ⟨1, ![64]⟩
abbrev S1 : Shape := ⟨1, ![1]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S8192x2048 .f32) (main_arg1 : FVec F S2048x64 .f32) (main_arg2 : FVec F S64 .f32) (main_arg3 : FVec F S64 .f32) (main_arg4 : FVec F S1 .f32) : IVec S64 1 :=
  let main_cst : FVec F S_ .f32 := constant S_ .f32 0x00000000#32
  let main_v0 : FVec F S64 .f32 := broadcastInDim S64 ![] bcast_S_S64 main_cst
  let main_v1 : IVec S64 1 := cmpf .ole main_arg3 main_v0
  let main_cst_0 : FVec F S_ .f32 := constant S_ .f32 0x3F800000#32
  let main_v2 : FVec F S64 .f32 := broadcastInDim S64 ![] bcast_S_S64 main_cst_0
  let main_v3 : IVec S64 1 := cmpf .oeq main_arg3 main_v2
  let main_v4 : IVec S64 1 := ori main_v1 main_v3
  main_v4
-- ==== Kernel.lean ====
abbrev S8192x2048 : Shape := ⟨2, ![8192, 2048]⟩
abbrev S2048x64 : Shape := ⟨2, ![2048, 64]⟩
abbrev S64 : Shape := ⟨1, ![64]⟩
abbrev S1 : Shape := ⟨1, ![1]⟩
abbrev S1x64 : Shape := ⟨2, ![1, 64]⟩
abbrev S1x1 : Shape := ⟨2, ![1, 1]⟩
abbrev S8192x64 : Shape := ⟨2, ![8192, 64]⟩
abbrev S8192x1 : Shape := ⟨2, ![8192, 1]⟩
abbrev S2048x2048 : Shape := ⟨2, ![2048, 2048]⟩
abbrev S2048x1 : Shape := ⟨2, ![2048, 1]⟩
abbrev S2x64 : Shape := ⟨2, ![2, 64]⟩
abbrev S2048 : Shape := ⟨1, ![2048]⟩
abbrev S8192 : Shape := ⟨1, ![8192]⟩

abbrev nBuf : Space → Nat
  | .hbm => 11
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S64, .f32⟩
  | .hbm, ⟨4, _⟩ => ⟨S1, .f32⟩
  | .hbm, ⟨5, _⟩ => ⟨S1x64, .f32⟩
  | .hbm, ⟨6, _⟩ => ⟨S1x64, .f32⟩
  | .hbm, ⟨7, _⟩ => ⟨S1x1, .f32⟩
  | .hbm, ⟨8, _⟩ => ⟨S8192x64, .f32⟩
  | .hbm, ⟨9, _⟩ => ⟨S8192x1, .i32⟩
  | .hbm, ⟨10, _⟩ => ⟨S8192, .i32⟩
  | .local _ .vmem, ⟨0, _⟩ => ⟨S2048x2048, .f32⟩
  | .local _ .vmem, ⟨1, _⟩ => ⟨S2048x2048, .f32⟩
  | .local _ .vmem, ⟨2, _⟩ => ⟨S2048x64, .f32⟩
  | .local _ .vmem, ⟨3, _⟩ => ⟨S1x64, .f32⟩
  | .local _ .vmem, ⟨4, _⟩ => ⟨S1x64, .f32⟩
  | .local _ .vmem, ⟨5, _⟩ => ⟨S1x1, .f32⟩
  | .local _ .vmem, ⟨6, _⟩ => ⟨S2048x64, .f32⟩
  | .local _ .vmem, ⟨7, _⟩ => ⟨S2048x64, .f32⟩
  | .local _ .vmem, ⟨8, _⟩ => ⟨S2048x1, .i32⟩
  | .local _ .vmem, ⟨9, _⟩ => ⟨S2048x1, .i32⟩
  | .local _ .vmem, ⟨10, _⟩ => ⟨S2048x64, .f32⟩
  | .local _ .vmem, ⟨11, _⟩ => ⟨S2x64, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x1 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x2048 : Shape := ⟨2, ![8192, 2048]⟩
abbrev S2048x64 : Shape := ⟨2, ![2048, 64]⟩
abbrev S64 : Shape := ⟨1, ![64]⟩
abbrev S1 : Shape := ⟨1, ![1]⟩
abbrev S_ : Shape := ⟨0, ![]⟩
abbrev S8192 : Shape := ⟨1, ![8192]⟩
abbrev S8192x1 : Shape := ⟨2, ![8192, 1]⟩
abbrev S1x64 : Shape := ⟨2, ![1, 64]⟩
abbrev S8192x64 : Shape := ⟨2, ![8192, 64]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x64, .f32⟩
  | .hbm, ⟨2, _⟩ => ⟨S64, .f32⟩
  | .hbm, ⟨3, _⟩ => ⟨S64, .f32⟩
  | .hbm, ⟨4, _⟩ => ⟨S1, .f32⟩
  | .hbm, ⟨5, _⟩ => ⟨S_, .f32⟩
  | .hbm, ⟨6, _⟩ => ⟨S1, .f32⟩
  | .hbm, ⟨7, _⟩ => ⟨S1, .f32⟩
  | .hbm, ⟨8, _⟩ => ⟨S1, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S2048x64, .f32⟩
  | .hbm, ⟨20, _⟩ => ⟨S_, .f32⟩
  | .hbm, ⟨21, _⟩ => ⟨S64, .f32⟩
  | .hbm, ⟨22, _⟩ => ⟨S1x64, .f32⟩
  | .hbm, ⟨23, _⟩ => ⟨S1x64, .f32⟩
  | .hbm, ⟨24, _⟩ => ⟨S_, .f32⟩
  | .hbm, ⟨25, _⟩ => ⟨S1x64, .f32⟩
  | .hbm, ⟨26, _⟩ => ⟨S1x64, .f32⟩
  | .hbm, ⟨27, _⟩ => ⟨S2048x64, .f32⟩
  | .hbm, ⟨28, _⟩ => ⟨S2048x64, .f32⟩
  | .hbm, ⟨29, _⟩ => ⟨S8192x64, .f32⟩
  | .hbm, ⟨30, _⟩ => ⟨S1x1, .f32⟩
  | .hbm, ⟨31, _⟩ => ⟨S8192x64, .f32⟩
  | .hbm, ⟨32, _⟩ => ⟨S8192x64, .f32⟩
  | .hbm, ⟨33, _⟩ => ⟨S8192x64, .f32⟩
  | .hbm, ⟨34, _⟩ => ⟨S8192x64, .f32⟩
  | .hbm, ⟨35, _⟩ => ⟨S_, .f32⟩
  | .hbm, ⟨36, _⟩ => ⟨S8192x64, .f32⟩
  | .hbm, ⟨37, _⟩ => ⟨S8192x64, .f32⟩
  | .hbm, ⟨38, _⟩ => ⟨S_, .f32⟩
  | .hbm, ⟨39, _⟩ => ⟨S8192x64, .f32⟩
  | .hbm, ⟨40, _⟩ => ⟨S8192x64, .f32⟩
  | .hbm, ⟨41, _⟩ => ⟨S1x64, .f32⟩
  | .hbm, ⟨42, _⟩ => ⟨S8192x64, .f32⟩
  | .hbm, ⟨43, _⟩ => ⟨S8192x64, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S64, .f32⟩
  | .hbm, ⟨48, _⟩ => ⟨S_, .f32⟩
  | .hbm, ⟨49, _⟩ => ⟨S64, .f32⟩
  | .hbm, ⟨50, _⟩ => ⟨S64, .f32⟩
  | .hbm, ⟨51, _⟩ => ⟨S_, .f32⟩
  | .hbm, ⟨52, _⟩ => ⟨S64, .f32⟩
  | .hbm, ⟨53, _⟩ => ⟨S64, .f32⟩
  | .hbm, ⟨54, _⟩ => ⟨S1x64, .f32⟩
  | .hbm, ⟨55, _⟩ => ⟨S8192x64, .f32⟩
  | .hbm, ⟨56, _⟩ => ⟨S8192x64, .f32⟩
  | .hbm, ⟨57, _⟩ => ⟨S_, .f32⟩
  | .hbm, ⟨58, _⟩ => ⟨S8192x64, .f32⟩
  | .hbm, ⟨59, _⟩ => ⟨S8192x64, .f32⟩
  | .hbm, ⟨60, _⟩ => ⟨S8192x64, .f32⟩
  | .hbm, ⟨61, _⟩ => ⟨S8192x64, .f32⟩
  | .hbm, ⟨62, _⟩ => ⟨S8192x64, .f32⟩
  | .hbm, ⟨63, _⟩ => ⟨S_, .f32⟩
  | .hbm, ⟨64, _⟩ => ⟨S8192x64, .f32⟩
  | .hbm, ⟨65, _⟩ => ⟨S8192x64, .i1⟩
  | .hbm, ⟨66, _⟩ => ⟨S8192x64, .i32⟩
  | .hbm, ⟨67, _⟩ => ⟨S_, .i32⟩
  | .hbm, ⟨68, _⟩ => ⟨S8192, .i32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call1_v0 : Ref sig .tc := ⟨.hbm, 19, rfl⟩
abbrev main_call1_cst : Ref sig .tc := ⟨.hbm, 20, rfl⟩
abbrev main_call1_v1 : Ref sig .tc := ⟨.hbm, 21, rfl⟩
abbrev main_call1_v2 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call2_cst : Ref sig .tc := ⟨.hbm, 57, rfl⟩
abbrev main_call2_v0 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_6 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c : Ref sig .tc := ⟨.hbm, 67, rfl⟩
abbrev main_v44 : Ref sig .tc := ⟨.hbm, 68, rfl⟩

abbrev nD : Nat := 1
abbrev τ : Topo := Topo.v7x

variable {F : FTy → Type} [FloatOps F]
-- ==== Proof.BlockRun.lean ====
/- What one grid point leaves in its buffers, in terms of the values the kernel body computes.

   The first point fills two scratch buffers: the normalized expert matrix, and a table of two rows holding the scaled
   thresholds and the scale. Every point, the first included, then computes its block of gates and its column of counts
   from its block of tokens and those two scratches, which no later point changes. -/
module

public import proofs.«01_k».proof.Proof.Gen.KernelIdeal.Frame
public import Idealize.ShloMosaic.Lib.Pipeline.Value
public import Idealize.ShloMosaic.Lib.Tactic
public import Idealize.ShloMosaic.Lib.ValueIdx

@[expose] public section

noncomputable section

namespace Cert.KernelIdeal.BlockRun

open Cert.KernelIdeal Cert.KernelIdeal.Gen Idealize.ShloMosaic Idealize.ShloMosaic.TcCoe Idealize.SL.Sem
open Idealize.ShloMosaic.ValueIdx (ix2)

variable {F : FTy → Type} [FloatOps F]

/-- Two zero offsets are the zero offset function. -/
theorem offsets_zero : (![0, 0] : Fin 2 → Nat) = fun _ => 0 := by
  funext a
  match a with
  | ⟨0, _⟩ => rfl
  | ⟨1, _⟩ => rfl

/-! ## The values -/

/-- The table the first point writes: row 0 the threshold of every expert, row 1 the scale in every column. -/
def table (tm : Vec F S1x1 .f32) (k g : Vec F S1x64 .f32) : Vec F S2x64 .f32 :=
  fun j => if (j 0).val = 0 then k0_pay3 tm k g (ix2 0 (j 1)) else k0_pay4 tm (ix2 0 (j 1))

/-- Row 0 of a two-row table. -/
abbrev row0 (s : Vec F S2x64 .f32) : Vec F S1x64 .f32 := View.ld s (Rect.unit (s := S2x64) ![0, 0] S1x64.size inb_S2x64_S1x64_0_0)

/-- The first entry of row 1 of a two-row table. -/
abbrev entry1 (s : Vec F S2x64 .f32) : Vec F S1x1 .f32 := View.ld s (Rect.unit (s := S2x64) ![1, 0] S1x1.size inb_S2x64_S1x1_1_0)

/-- The block of gates a point computes from its token block, the normalized experts and the table. -/
def gates (x : Vec F S2048x2048 .f32) (wn : Vec F S2048x64 .f32) (s : Vec F S2x64 .f32) : Vec F S2048x64 .f32 :=
  k0_pay5 wn (row0 s) (entry1 s) x

/-- The column of counts a point computes from the same values. -/
def counts (x : Vec F S2048x2048 .f32) (wn : Vec F S2048x64 .f32) (s : Vec F S2x64 .f32) : IVec S2048x1 32 :=
  k0_pay6 wn (row0 s) (entry1 s) x

/-! ## The two row stores are the table -/

/-- The table's two row stores, the later one first. -/
abbrev rowStores (tm : Vec F S1x1 .f32) (k g : Vec F S1x64 .f32) : List (View.Piece (Elt F) S2x64 .f32) :=
  [⟨Rect.unit (s := S2x64) ![1, 0] S1x64.size inb_S2x64_S1x64_1_0, k0_pay4 tm⟩,
   ⟨Rect.unit (s := S2x64) ![0, 0] S1x64.size inb_S2x64_S1x64_0_0, k0_pay3 tm k g⟩]

/-- Every entry of the table lies in one of the two rows stored. -/
theorem rowStores_cover (tm : Vec F S1x1 .f32) (k g : Vec F S1x64 .f32) (y : S2x64.Idx) :
    ∃ p ∈ rowStores tm k g, y ∈ p.1.set := by
  have h0 : (y 0).val < 2 := (y 0).isLt
  have h1 : (y 1).val < 64 := (y 1).isLt
  by_cases h : (y 0).val = 0
  · refine ⟨⟨Rect.unit (s := S2x64) ![0, 0] S1x64.size inb_S2x64_S1x64_0_0, k0_pay3 tm k g⟩,
      List.mem_cons_of_mem _ (List.mem_singleton_self _), (Rect.mem_set_unit (inb := inb_S2x64_S1x64_0_0)).mpr fun a => ?_⟩
    match a with
    | ⟨0, _⟩ => show 0 ≤ (y 0).val ∧ (y 0).val < 0 + 1; omega
    | ⟨1, _⟩ => show 0 ≤ (y 1).val ∧ (y 1).val < 0 + 64; omega
  · refine ⟨⟨Rect.unit (s := S2x64) ![1, 0] S1x64.size inb_S2x64_S1x64_1_0, k0_pay4 tm⟩,
      List.mem_cons_self, (Rect.mem_set_unit (inb := inb_S2x64_S1x64_1_0)).mpr fun a => ?_⟩
    match a with
    | ⟨0, _⟩ => show 1 ≤ (y 0).val ∧ (y 0).val < 1 + 1; omega
    | ⟨1, _⟩ => show 0 ≤ (y 1).val ∧ (y 1).val < 0 + 64; omega

/-- An index of a one-row array is the index at row 0 whose column is the same number. -/
theorem row_index (z : S1x64.Idx) (b : Fin 64) (hb : b.val = (z 1).val) : z = ix2 0 b := by
  funext a
  match a with
  | ⟨0, _⟩ => exact Fin.ext (by have : (z 0).val < 1 := (z 0).isLt; show (z 0).val = 0; omega)
  | ⟨1, _⟩ => exact Fin.ext hb.symm

/-- The two row stores leave the table, whatever the buffer held. -/
theorem rowStores_canon (tm : Vec F S1x1 .f32) (k g : Vec F S1x64 .f32) : View.canon (rowStores tm k g) = table tm k g := by
  funext y
  refine View.canon_apply_of_pieces (table tm k g) _ ?_ y (rowStores_cover tm k g y)
  intro p hp z
  rcases List.mem_cons.mp hp with rfl | hp
  · refine (congrArg (k0_pay4 tm) (row_index z _ ?_)).trans (if_neg ?_).symm
    · show 0 + 1 * (z 1).val = (z 1).val; omega
    · show ¬ 1 + 1 * (z 0).val = 0; omega
  · obtain rfl := List.mem_singleton.mp hp
    refine (congrArg (k0_pay3 tm k g) (row_index z _ ?_)).trans (if_pos ?_).symm
    · show 0 + 1 * (z 1).val = (z 1).val; omega
    · have : (z 0).val < 1 := (z 0).isLt
      show 0 + 1 * (z 0).val = 0; omega

/-- Row 0 read back after the two row stores is row 0 of the table. -/
theorem readCov_row0 (v : View sig .tc .vmem S2x64 .f32) (tm : Vec F S1x1 .f32) (k g : Vec F S1x64 .f32) :
    v.readCov (rowStores tm k g) (Rect.unit (s := S2x64) ![0, 0] S1x64.size inb_S2x64_S1x64_0_0).toLoadRect = row0 (table tm k g) := by
  rw [View.readCov_eq_canon_ld v _ _ (rowStores_cover tm k g), rowStores_canon]

/-- The first entry of row 1 read back after the two row stores is that of the table. -/
theorem readCov_entry1 (v : View sig .tc .vmem S2x64 .f32) (tm : Vec F S1x1 .f32) (k g : Vec F S1x64 .f32) :
    v.readCov (rowStores tm k g) (Rect.unit (s := S2x64) ![1, 0] S1x1.size inb_S2x64_S1x1_1_0).toLoadRect = entry1 (table tm k g) := by
  rw [View.readCov_eq_canon_ld v _ _ (rowStores_cover tm k g), rowStores_canon]

/-! ## The two cases -/

section Cases

variable (c : Dev nD) (i : grid0.Coords)
  (a1 : Memref sig .tc .vmem S2048x2048 .f32) (h1 : a1.IsWhole) (a2 : Memref sig .tc .vmem S2048x64 .f32) (h2 : a2.IsWhole)
  (a3 : Memref sig .tc .vmem S1x64 .f32) (h3 : a3.IsWhole) (a4 : Memref sig .tc .vmem S1x64 .f32) (h4 : a4.IsWhole)
  (a5 : Memref sig .tc .vmem S1x1 .f32) (h5 : a5.IsWhole) (a6 : Memref sig .tc .vmem S2048x64 .f32) (h6 : a6.IsWhole)
  (a7 : Memref sig .tc .vmem S2048x1 .i32) (h7 : a7.IsWhole) (a8 : Memref sig .tc .vmem S2048x64 .f32) (h8 : a8.IsWhole)
  (a9 : Memref sig .tc .vmem S2x64 .f32) (h9 : a9.IsWhole)
  (x : Vec F S2048x2048 .f32) (w : Vec F S2048x64 .f32) (g k : Vec F S1x64 .f32) (tm : Vec F S1x1 .f32)
  (s0 : Vec F S2048x64 .f32) (s1 : Vec F S2x64 .f32)

/-- A later point leaves the gates of its token block and the scratches it found. -/
theorem later_gates (hc : ¬cond0_0 i) :
    out0_B_5 c i a1 h1 a2 h2 a3 h3 a4 h4 a5 h5 a6 h6 a7 h7 a8 h8 a9 h9 hc x w g k tm s0 s1 = gates x s0 s1 := by
  unfold out0_B_5
  rw [View.read_writes_eq_canon _ _ _ (cover0_B_5 c i a1 h1 a2 h2 a3 h3 a4 h4 a5 h5 a6 h6 a7 h7 a8 h8 a9 h9 hc x w g k tm s0 s1)]
  unfold kernelRun0_B
  dsimp only
  sl_unfold_words
  rw [View.canon_unit_zero offsets_zero]
  simp only [View.readAt_eq_ld, h1.read_unread, h8.read_unread, h9.read_unread, View.ld_unit_zero (S := S2048x64) offsets_zero,
    View.ld_unit_zero (S := S2048x2048) offsets_zero]
  rfl

/-- A later point leaves the counts of its token block and the scratches it found. -/
theorem later_counts (hc : ¬cond0_0 i) :
    out0_B_6 c i a1 h1 a2 h2 a3 h3 a4 h4 a5 h5 a6 h6 a7 h7 a8 h8 a9 h9 hc x w g k tm s0 s1 = counts x s0 s1 := by
  unfold out0_B_6
  rw [View.read_writes_eq_canon _ _ _ (cover0_B_6 c i a1 h1 a2 h2 a3 h3 a4 h4 a5 h5 a6 h6 a7 h7 a8 h8 a9 h9 hc x w g k tm s0 s1)]
  unfold kernelRun0_B
  dsimp only
  sl_unfold_words
  rw [View.canon_unit_zero offsets_zero]
  simp only [View.readAt_eq_ld, h1.read_unread, h8.read_unread, h9.read_unread, View.ld_unit_zero (S := S2048x64) offsets_zero,
    View.ld_unit_zero (S := S2048x2048) offsets_zero]
  rfl

/-- The first point leaves the normalized experts in the first scratch. -/
theorem first_experts (hc : cond0_0 i) :
    sout0_A_0 c i a1 h1 a2 h2 a3 h3 a4 h4 a5 h5 a6 h6 a7 h7 a8 h8 a9 h9 hc x w g k tm = k0_pay1 w := by
  unfold sout0_A_0
  rw [View.read_writes_eq_canon _ _ _ (scover0_A_0 c i a1 h1 a2 h2 a3 h3 a4 h4 a5 h5 a6 h6 a7 h7 a8 h8 a9 h9 hc x w g k tm)]
  unfold kernelRun0_A
  dsimp only
  sl_unfold_words
  rw [View.canon_unit_zero offsets_zero]
  simp only [View.readAt_eq_ld, h2.read_unread, View.ld_unit_zero (S := S2048x64) offsets_zero]

/-- The first point leaves the table in the second scratch. -/
theorem first_table (hc : cond0_0 i) :
    sout0_A_1 c i a1 h1 a2 h2 a3 h3 a4 h4 a5 h5 a6 h6 a7 h7 a8 h8 a9 h9 hc x w g k tm = table tm k g := by
  unfold sout0_A_1
  rw [View.read_writes_eq_canon _ _ _ (scover0_A_1 c i a1 h1 a2 h2 a3 h3 a4 h4 a5 h5 a6 h6 a7 h7 a8 h8 a9 h9 hc x w g k tm)]
  unfold kernelRun0_A
  dsimp only
  sl_unfold_words
  simp only [View.readAt_eq_ld, h3.read_unread, h4.read_unread, h5.read_unread, View.ld_unit_zero (S := S1x64) offsets_zero,
    View.ld_unit_zero (S := S1x1) offsets_zero]
  exact rowStores_canon tm k g

/-- The first point leaves the gates of its token block, the normalized experts and the table. -/
theorem first_gates (hc : cond0_0 i) :
    out0_A_5 c i a1 h1 a2 h2 a3 h3 a4 h4 a5 h5 a6 h6 a7 h7 a8 h8 a9 h9 hc x w g k tm = gates x (k0_pay1 w) (table tm k g) := by
  unfold out0_A_5
  rw [View.read_writes_eq_canon _ _ _ (cover0_A_5 c i a1 h1 a2 h2 a3 h3 a4 h4 a5 h5 a6 h6 a7 h7 a8 h8 a9 h9 hc x w g k tm)]
  unfold kernelRun0_A
  dsimp only
  sl_unfold_words
  rw [View.canon_unit_zero offsets_zero]
  simp only [View.readAt_eq_ld, h1.read_unread, h2.read_unread, h3.read_unread, h4.read_unread, h5.read_unread,
    View.ld_unit_zero (S := S2048x64) offsets_zero, View.ld_unit_zero (S := S2048x2048) offsets_zero,
    View.ld_unit_zero (S := S1x64) offsets_zero, View.ld_unit_zero (S := S1x1) offsets_zero]
  rw [View.readCov_unit_zero (S := S2048x64) _ offsets_zero]
  exact congrArg₂ (fun r e => k0_pay5 (k0_pay1 w) r e x) (readCov_row0 a9.view tm k g) (readCov_entry1 a9.view tm k g)

/-- The first point leaves the counts of its token block, the normalized experts and the table. -/
theorem first_counts (hc : cond0_0 i) :
    out0_A_6 c i a1 h1 a2 h2 a3 h3 a4 h4 a5 h5 a6 h6 a7 h7 a8 h8 a9 h9 hc x w g k tm = counts x (k0_pay1 w) (table tm k g) := by
  unfold out0_A_6
  rw [View.read_writes_eq_canon _ _ _ (cover0_A_6 c i a1 h1 a2 h2 a3 h3 a4 h4 a5 h5 a6 h6 a7 h7 a8 h8 a9 h9 hc x w g k tm)]
  unfold kernelRun0_A
  dsimp only
  sl_unfold_words
  rw [View.canon_unit_zero offsets_zero]
  simp only [View.readAt_eq_ld, h1.read_unread, h2.read_unread, h3.read_unread, h4.read_unread, h5.read_unread,
    View.ld_unit_zero (S := S2048x64) offsets_zero, View.ld_unit_zero (S := S2048x2048) offsets_zero,
    View.ld_unit_zero (S := S1x64) offsets_zero, View.ld_unit_zero (S := S1x1) offsets_zero]
  rw [View.readCov_unit_zero (S := S2048x64) _ offsets_zero]
  exact congrArg₂ (fun r e => k0_pay6 (k0_pay1 w) r e x) (readCov_row0 a9.view tm k g) (readCov_entry1 a9.view tm k g)

end Cases

/-! ## After every point -/

variable (m : (ℓ : Loc nD τ sig) → Buf (Elt F) ℓ)

/-- The first grid point. -/
abbrev p0 : Fin cfg0.N := ⟨0, by rw [show cfg0.N = 4 from N_0]; decide⟩

/-- The normalized experts of the launch: those of the expert matrix the first point reads. -/
def experts (c : Dev nD) : Vec F S2048x64 .f32 := k0_pay1 (iblk m c 1 p0)

/-- The table of the launch: that of the scale, the mask and the gates the first point reads. -/
def launchTable (c : Dev nD) : Vec F S2x64 .f32 := table (iblk m c 4 p0) (iblk m c 3 p0) (iblk m c 2 p0)

/-- AFTER EVERY POINT the gates and counts of its own token block are in its output buffers, and the scratches hold the
    launch's normalized experts and table: by induction on the point. -/
theorem after_point (c : Dev nD) : ∀ (n : ℕ) (h : n < cfg0.N), outsAt0 m c n h
    = (gates (iblk m c 0 ⟨n, h⟩) (experts m c) (launchTable m c), counts (iblk m c 0 ⟨n, h⟩) (experts m c) (launchTable m c),
       experts m c, launchTable m c)
  | 0, h => by
    rw [outsAt0_A m c ⟨0, h⟩ rfl, first_gates, first_counts, first_experts, first_table]
    rfl
  | n + 1, h => by
    have hN : cfg0.N = 4 := N_0
    have hB : ¬(⟨n + 1, h⟩ : Fin cfg0.N).val % 4 = 0 := by dsimp only; omega
    rw [outsAt0_B m c ⟨n + 1, h⟩ hB, later_gates, later_counts]
    unfold sout0_B_0 sout0_B_1
    have ih := after_point c n (Nat.lt_of_succ_lt h)
    simp only [Nat.add_sub_cancel, ih]

end Cert.KernelIdeal.BlockRun

end
-- ==== Proof.Spec.lean ====
/- The values the kernel and the reference both compute, one token and one expert at a time, on the extended reals.

   A token and an expert are each a list of 2048 numbers. Their similarity is the sum of the products of the two lists,
   each first divided by its own length (kept away from zero by a small constant). The similarity and the expert's gate
   are both multiplied by a common scale, the exponential of the capped temperature. -/
module

public import Idealize.ShloMosaic.PureOps.Ideal
public import Idealize.ShloMosaic.PureOps.Ideal.Laws

@[expose] public section

noncomputable section

namespace Cert.Spec

open Idealize.ShloMosaic

/-- The smallest length a list is divided by: the float written `1e-12`. -/
def floor : EReal := Ideal.ofBits .f32 0x2B8CBCCC#32

/-- The cap on the temperature: the float nearest to the natural logarithm of one hundred. -/
def cap : EReal := Ideal.ofBits .f32 0x40935D8E#32

/-- The length of a list: the square root of the sum of its squares, or the small constant if that is larger. -/
def length (v : Fin 2048 → EReal) : EReal := max (Ideal.sqrt (∑ k, v k * v k)) floor

/-- The similarity of a token `x` and an expert `w`: the sum of the products of the two lists over their lengths. -/
def similarity (x w : Fin 2048 → EReal) : EReal := ∑ k, Ideal.div (x k) (length x) * Ideal.div (w k) (length w)

/-- The scale at temperature `t`: the exponential of the capped temperature. -/
def scale (t : EReal) : EReal := Ideal.exp (min t cap)

/-- The scaled similarity of a token and an expert. -/
def scaled (x w : Fin 2048 → EReal) (t : EReal) : EReal := similarity x w * scale t

/-- The scaled gate of an expert. -/
def bound (g t : EReal) : EReal := g * scale t

end Cert.Spec

end
-- ==== Proof.Gate.lean ====
/- The mathematics of one gate, on the extended reals.

   A token's scaled similarity `a` to an expert is compared with the expert's scaled threshold `b`, and the expert's
   mask entry `k` switches the expert on or off. The reference compares through the logistic function, takes the
   positive part and then its sign; the kernel compares `a` with `b` directly. This file shows that the two agree as
   soon as `k` is not positive or is exactly one. -/
module

public import Idealize.ShloMosaic.PureOps.Ideal
public import Idealize.ShloMosaic.PureOps.Ideal.Laws

@[expose] public section

noncomputable section

namespace Cert.Gate

open Idealize.ShloMosaic

/-- The logistic function as the reference spells it: one over one plus the exponential of minus `z`. -/
def logi (z : EReal) : EReal := Ideal.div 1 (1 + Ideal.exp (-z))

/-- The real number the logistic function takes at an extended real: `0` at `-∞`, `1` at `+∞`. -/
def logiReal : EReal → ℝ
  | ⊥ => 0
  | ⊤ => 1
  | (r : ℝ) => (1 + Real.exp (-r))⁻¹

/-- The logistic function is finite everywhere: it is the real number `logiReal`. -/
theorem logi_eq (z : EReal) : logi z = ((logiReal z : ℝ) : EReal) := by
  induction z using EReal.rec with
  | bot =>
    show Ideal.div 1 (1 + Ideal.exp (-⊥)) = ((0 : ℝ) : EReal)
    rw [EReal.neg_bot, Ideal.exp_top, EReal.add_top_of_ne_bot (by rw [← EReal.coe_one]; exact EReal.coe_ne_bot 1)]
    simp [Ideal.div]
  | top =>
    show Ideal.div 1 (1 + Ideal.exp (-⊤)) = ((1 : ℝ) : EReal)
    simp [Ideal.div]
  | coe r =>
    have hp : (0 : ℝ) < 1 + Real.exp (-r) := by positivity
    have e : (1 : EReal) + Ideal.exp (-(r : EReal)) = ((1 + Real.exp (-r) : ℝ) : EReal) := by
      rw [← EReal.coe_neg, Ideal.exp_coe, EReal.coe_add, EReal.coe_one]
    unfold logi Ideal.div
    rw [e, if_neg (by exact_mod_cast hp.ne'), one_mul, ← EReal.coe_inv]
    rfl

/-- The logistic function's values are at least zero. -/
theorem logiReal_nonneg (z : EReal) : 0 ≤ logiReal z := by
  induction z using EReal.rec with
  | bot => exact le_refl 0
  | top => exact zero_le_one
  | coe r => show 0 ≤ (1 + Real.exp (-r))⁻¹; positivity

/-- The logistic function is strictly increasing, the two infinities included. -/
theorem logiReal_strictMono : StrictMono logiReal := by
  intro a b hab
  induction a using EReal.rec with
  | top => exact absurd hab not_top_lt
  | bot =>
    induction b using EReal.rec with
    | bot => exact absurd hab (lt_irrefl _)
    | top => exact zero_lt_one
    | coe s => show 0 < (1 + Real.exp (-s))⁻¹; positivity
  | coe r =>
    induction b using EReal.rec with
    | bot => exact absurd hab not_lt_bot
    | top =>
      show (1 + Real.exp (-r))⁻¹ < 1
      exact inv_lt_one_of_one_lt₀ (lt_add_of_pos_right 1 (Real.exp_pos _))
    | coe s =>
      show (1 + Real.exp (-r))⁻¹ < (1 + Real.exp (-s))⁻¹
      have hrs : r < s := by exact_mod_cast hab
      refine inv_strictAnti₀ (by positivity) ?_
      exact (add_lt_add_iff_left 1).mpr (Real.exp_lt_exp.mpr (neg_lt_neg hrs))

/-- What the reference computes before it takes the sign: the positive part of the masked logistic value of `a` minus
    the logistic value of `b`. -/
def excess (a b k : EReal) : EReal := max (logi a * k - logi b) 0

/-- What the reference returns for one token and one expert: the excess plus the difference of its sign and itself. -/
def refGate (a b k : EReal) : EReal := excess a b k + (Ideal.sign (excess a b k) - excess a b k)

/-- What the kernel returns for one token and one expert: one where `a` exceeds the threshold, else zero; the threshold
    of an expert that is switched off is `+∞`. -/
def kerGate (a b k : EReal) : EReal := if (if 0 < k then b else ⊤) < a then 1 else 0

/-- An expert whose mask entry is not positive has no excess. -/
theorem excess_of_nonpos {a b k : EReal} (hk : k ≤ 0) : excess a b k = 0 := by
  unfold excess
  rw [logi_eq a, logi_eq b]
  refine max_eq_right ?_
  have h1 : ((logiReal a : ℝ) : EReal) * k ≤ 0 := by
    have h := mul_le_mul_of_nonneg_left hk (show (0 : EReal) ≤ ((logiReal a : ℝ) : EReal) by exact_mod_cast logiReal_nonneg a)
    rwa [mul_zero] at h
  have h2 : -((logiReal b : ℝ) : EReal) ≤ 0 := by
    rw [← EReal.coe_neg]; exact_mod_cast neg_nonpos.mpr (logiReal_nonneg b)
  rw [sub_eq_add_neg]
  exact (add_le_add h1 h2).trans (by simp)

/-- An expert whose mask entry is one has a real excess: the positive part of the difference of two logistic values. -/
theorem excess_one (a b : EReal) : excess a b 1 = ((max (logiReal a - logiReal b) 0 : ℝ) : EReal) := by
  unfold excess
  rw [logi_eq a, logi_eq b, mul_one, ← EReal.coe_sub, ← EReal.coe_zero]
  exact (EReal.coe_strictMono.monotone.map_max).symm

/-- A real excess plus the difference of its sign and itself is its sign. -/
theorem straight_through (r : ℝ) : (r : EReal) + (Ideal.sign (r : EReal) - (r : EReal)) = ((SignType.sign r : ℝ) : EReal) := by
  show (r : EReal) + (((SignType.sign r : ℝ) : EReal) - (r : EReal)) = _
  rw [← EReal.coe_sub, ← EReal.coe_add]
  congr 1
  ring

/-- THE GATE EQUATION: where the mask entry is not positive or is one, the reference's gate is the kernel's. -/
theorem refGate_eq_kerGate {a b k : EReal} (hk : k ≤ 0 ∨ k = 1) : refGate a b k = kerGate a b k := by
  unfold refGate kerGate
  rcases hk with hk | rfl
  · rw [excess_of_nonpos hk, if_neg (not_lt.mpr hk), if_neg not_top_lt, ← EReal.coe_zero, straight_through]
    simp
  · rw [excess_one, straight_through, if_pos zero_lt_one]
    by_cases hab : b < a
    · have h : 0 < logiReal a - logiReal b := sub_pos.mpr (logiReal_strictMono hab)
      rw [if_pos hab, max_eq_left h.le, sign_pos h]
      simp
    · have h : logiReal a - logiReal b ≤ 0 := sub_nonpos.mpr (logiReal_strictMono.monotone (not_lt.mp hab))
      rw [if_neg hab, max_eq_right h, sign_zero]
      simp

/-- The kernel's gate is positive exactly where the scaled similarity exceeds the threshold. -/
theorem kerGate_pos_iff (a b k : EReal) : 0 < kerGate a b k ↔ (if 0 < k then b else ⊤) < a := by
  unfold kerGate
  split_ifs <;> simp_all

end Cert.Gate

end
-- ==== Proof.BlockValue.lean ====
/- What the kernel body computes for one block, read entry by entry on the extended reals.

   The normalized experts are the expert matrix with every column divided by its length; the table's two rows are the
   thresholds and the scale; and the gate of a token and an expert is one where the scaled similarity exceeds the
   threshold. The count of a token is the sum of its gates, rounded to a word. -/
module

public import proofs.«01_k».proof.Proof.BlockRun
public import proofs.«01_k».proof.Proof.Spec
public import proofs.«01_k».proof.Proof.Gate
public import Idealize.ShloMosaic.Lib.IdealHost

@[expose] public section

noncomputable section

namespace Cert.KernelIdeal.BlockValue

open Cert.KernelIdeal Cert.KernelIdeal.Gen Cert.KernelIdeal.BlockRun Idealize.ShloMosaic Idealize.ShloMosaic.TcCoe
open Idealize.ShloMosaic.ValueIdx (ix1 ix2)

/-- The float with all exponent bits set and no fraction is `+∞`. -/
theorem top_bits : Ideal.ofBits .f32 0x7F800000#32 = ⊤ := by simp [Ideal.ofBits, Ideal.ieee]

/-- Choosing by a comparison bit is choosing by the comparison. -/
theorem select_ofBool (p : Prop) [Decidable p] (a b : EReal) :
    Scalar.select (BitVec.ofBool (decide p)) a b = if p then a else b := by
  unfold Scalar.select
  by_cases h : p <;> simp [h]

/-! ## The experts -/

/-- The normalized experts: each entry of the expert matrix over the length of its column. -/
theorem experts_apply (w : Vec Ideal S2048x64 .f32) (k : Fin 2048) (e : Fin 64) :
    k0_pay1 w (ix2 k e) = Ideal.div (w (ix2 k e)) (Spec.length fun r => w (ix2 r e)) := by
  unfold k0_pay1
  dsimp only
  rw [shapeCast_self]
  show Ideal.div (w (ix2 k e)) (broadcastTo S2048x64 _ _ (ix2 k e)) = _
  rw [broadcastTo_apply _ _ (ix2 k e) (ix2 0 e : S1x64.Idx) (fun a => by
    match a with
    | ⟨0, _⟩ => rfl
    | ⟨1, _⟩ => show e.val = if (64 : Nat) = 1 then 0 else e.val; rw [if_neg (by decide)])]
  unfold Spec.length
  refine congrArg (Ideal.div _) (congrArg (fun z => max (Ideal.sqrt z) Spec.floor) ?_)
  rw [shapeCast_apply _ _ (ix2 0 e : S1x64.Idx) (ix1 e : S64.Idx) (by
    rw [Shape.rowMajor_val_one, Shape.rowMajor_val_two]; show e.val = 0 * 64 + e.val; omega)]
  refine (Ideal.multiReduction_add_single _ _ _ _ _ _).trans ?_
  refine Finset.sum_congr rfl fun r _ => ?_
  have hl : (reduces_S2048x64_S64).lift (ix1 e : S64.Idx) r = (ix2 r e : S2048x64.Idx) := funext fun a => Fin.ext (by
    match a with
    | ⟨0, _⟩ => rfl
    | ⟨1, _⟩ => rfl)
  rw [hl]
  rfl

/-! ## The table -/

/-- The scale the kernel computes. -/
theorem scale_eq (tm : Vec Ideal S1x1 .f32) : k0_pay2 tm = Spec.scale (tm (ix2 0 0)) := by
  unfold k0_pay2 Spec.scale Spec.cap
  dsimp only
  refine congrArg (fun z => Ideal.exp (min z _)) (congrArg tm (funext fun a => Fin.ext ?_))
  match a with
  | ⟨0, _⟩ => rfl
  | ⟨1, _⟩ => rfl

/-- The threshold of an expert: its scaled gate where its mask entry is positive, else `+∞`. -/
theorem threshold_apply (tm : Vec Ideal S1x1 .f32) (k g : Vec Ideal S1x64 .f32) (e : Fin 64) :
    k0_pay3 tm k g (ix2 0 e) = if 0 < k (ix2 0 e) then Spec.bound (g (ix2 0 e)) (tm (ix2 0 0)) else ⊤ := by
  unfold k0_pay3
  simp only [shapeCast_self]
  rw [scale_eq]
  show Scalar.select (BitVec.ofBool (decide (Ideal.ofBits .f32 0x00000000#32 < k (ix2 0 e)))) (g (ix2 0 e) * Spec.scale (tm (ix2 0 0)))
    (Ideal.ofBits .f32 0x7F800000#32) = _
  rw [top_bits, Ideal.ofBits_zero_f32]
  exact select_ofBool _ _ _

/-- The second row the kernel stores holds the scale in every column. -/
theorem scaleRow_apply (tm : Vec Ideal S1x1 .f32) (e : Fin 64) : k0_pay4 tm (ix2 0 e) = Spec.scale (tm (ix2 0 0)) := by
  unfold k0_pay4
  rw [shapeCast_self, scale_eq]
  rfl

/-- Row 0 of the table holds the thresholds. -/
theorem row0_table (tm : Vec Ideal S1x1 .f32) (k g : Vec Ideal S1x64 .f32) (e : Fin 64) :
    row0 (table tm k g) (ix2 0 e) = if 0 < k (ix2 0 e) then Spec.bound (g (ix2 0 e)) (tm (ix2 0 0)) else ⊤ := by
  rw [← threshold_apply]
  refine (if_pos rfl).trans (congrArg (k0_pay3 tm k g) (row_index _ e ?_))
  show e.val = 0 + 1 * e.val
  omega

/-- The first entry of row 1 of the table is the scale. -/
theorem entry1_table (tm : Vec Ideal S1x1 .f32) (k g : Vec Ideal S1x64 .f32) :
    entry1 (table tm k g) (ix2 0 0) = Spec.scale (tm (ix2 0 0)) := by
  rw [← scaleRow_apply tm 0]
  exact if_neg (by decide)

/-! ## The gates and the counts -/

/-- The product of the normalized tokens and experts: the similarity of a token and an expert. -/
theorem product_apply (xn : Vec Ideal S2048x2048 .f32) (wn : Vec Ideal S2048x64 .f32) (i : Fin 2048) (e : Fin 64) :
    (matmul (φ₁ := .f32) (φ₂ := .f32) dot_S2048x2048_S2048x64_S2048x64_1_0_0_1_n_n none xn wn (constant S2048x64 .f32 0x00000000#32) : FVec Ideal S2048x64 .f32) (ix2 i e)
      = ∑ k : Fin 2048, xn (ix2 i k) * wn (ix2 k e) := by
  simp only [matmul]
  rw [Ideal.matmul_constant_zero_apply,
    ← Equiv.sum_comp (ValueIdx.contrEquiv1 dot_S2048x2048_S2048x64_S2048x64_1_0_0_1_n_n 2048 rfl rfl).symm]
  refine Finset.sum_congr rfl fun k _ => ?_
  have hk := ValueIdx.contrEquiv1_symm_val dot_S2048x2048_S2048x64_S2048x64_1_0_0_1_n_n 2048 rfl rfl k
  refine congrArg₂ (fun p q => xn p * wn q) (funext fun a => Fin.ext ?_) (funext fun a => Fin.ext ?_)
  · match a with
    | ⟨0, _⟩ =>
      show (DotDims.lhsIdx _ _ _ 0).val = i.val
      unfold DotDims.lhsIdx
      rw [dif_neg (show ¬(0 : Fin S2048x2048.rank) ∈ dot_S2048x2048_S2048x64_S2048x64_1_0_0_1_n_n.lhsBatch by decide),
        dif_pos (show (0 : Fin S2048x2048.rank) ∈ dot_S2048x2048_S2048x64_S2048x64_1_0_0_1_n_n.lhsNonContracting by decide)]
      rfl
    | ⟨1, _⟩ => exact (dot_S2048x2048_S2048x64_S2048x64_1_0_0_1_n_n.lhsIdx_val_of_single rfl _ _).trans hk
  · match a with
    | ⟨0, _⟩ => exact (dot_S2048x2048_S2048x64_S2048x64_1_0_0_1_n_n.rhsIdx_val_of_single rfl _ _).trans hk
    | ⟨1, _⟩ =>
      show (DotDims.rhsIdx _ _ _ 1).val = e.val
      unfold DotDims.rhsIdx
      rw [dif_neg (show ¬(1 : Fin S2048x64.rank) ∈ dot_S2048x2048_S2048x64_S2048x64_1_0_0_1_n_n.rhsBatch by decide),
        dif_pos (show (1 : Fin S2048x64.rank) ∈ dot_S2048x2048_S2048x64_S2048x64_1_0_0_1_n_n.rhsNonContracting by decide)]
      rfl

/-- The gate of a token and an expert, from any normalized experts, row of thresholds and scale. -/
theorem gate_apply (x : Vec Ideal S2048x2048 .f32) (wn : Vec Ideal S2048x64 .f32) (r : Vec Ideal S1x64 .f32) (s : Vec Ideal S1x1 .f32)
    (i : Fin 2048) (e : Fin 64) :
    k0_pay5 wn r s x (ix2 i e)
      = if r (ix2 0 e) < (∑ k : Fin 2048, Ideal.div (x (ix2 i k)) (Spec.length fun q => x (ix2 i q)) * wn (ix2 k e)) * s (ix2 0 0)
        then 1 else 0 := by
  unfold k0_pay5
  dsimp only
  refine (select_ofBool _ (Ideal.ofBits .f32 0x3F800000#32) (Ideal.ofBits .f32 0x00000000#32)).trans ?_
  rw [Ideal.ofBits_one_f32, Ideal.ofBits_zero_f32]
  refine if_congr (iff_of_eq ?_) rfl rfl
  refine congrArg₂ (fun a b : EReal => a < b)
    (broadcastTo_apply r _ (ix2 i e) (ix2 0 e : S1x64.Idx) (fun a => by
      match a with
      | ⟨0, _⟩ => rfl
      | ⟨1, _⟩ => show e.val = if (64 : Nat) = 1 then 0 else e.val; rw [if_neg (by decide)]))
    (congrArg₂ (fun a b : EReal => a * b) ((product_apply _ wn i e).trans (Finset.sum_congr rfl fun k _ => ?_))
      (congrArg s (funext fun a => Fin.ext (by match a with | ⟨0, _⟩ => rfl | ⟨1, _⟩ => rfl))))
  refine congrArg (fun z => Ideal.div (x (ix2 i k)) z * wn (ix2 k e)) ?_
  rw [broadcastTo_apply _ _ (ix2 i k) (ix2 i 0 : S2048x1.Idx) (fun a => by
    match a with
    | ⟨0, _⟩ => show i.val = if (2048 : Nat) = 1 then 0 else i.val; rw [if_neg (by decide)]
    | ⟨1, _⟩ => rfl)]
  unfold Spec.length
  refine congrArg (fun z => max (Ideal.sqrt z) Spec.floor) ?_
  rw [shapeCast_apply _ _ (ix2 i 0 : S2048x1.Idx) (ix1 i : S2048.Idx) (by
    rw [Shape.rowMajor_val_one, Shape.rowMajor_val_two]; show i.val = i.val * 1 + 0; omega)]
  refine (Ideal.multiReduction_add_single _ _ _ _ _ _).trans ?_
  refine Finset.sum_congr rfl fun q _ => ?_
  have hl : (reduces_S2048x2048_S2048).lift (ix1 i : S2048.Idx) q = (ix2 i q : S2048x2048.Idx) := funext fun a => Fin.ext (by
    match a with
    | ⟨0, _⟩ => rfl
    | ⟨1, _⟩ => rfl)
  rw [hl]
  rfl

/-- The gate of a token of a block and an expert: the kernel's gate at their scaled similarity, the expert's scaled gate and
    its mask entry. -/
theorem gates_apply (x : Vec Ideal S2048x2048 .f32) (w : Vec Ideal S2048x64 .f32) (tm : Vec Ideal S1x1 .f32)
    (k g : Vec Ideal S1x64 .f32) (i : Fin 2048) (e : Fin 64) :
    gates x (k0_pay1 w) (table tm k g) (ix2 i e)
      = Gate.kerGate (Spec.scaled (fun q => x (ix2 i q)) (fun q => w (ix2 q e)) (tm (ix2 0 0)))
          (Spec.bound (g (ix2 0 e)) (tm (ix2 0 0))) (k (ix2 0 e)) := by
  unfold gates
  rw [gate_apply, row0_table, entry1_table]
  unfold Gate.kerGate Spec.scaled Spec.similarity
  simp only [experts_apply]

/-- The count of a token of a block: the sum of its gates, rounded to a word. -/
theorem counts_apply (x : Vec Ideal S2048x2048 .f32) (wn : Vec Ideal S2048x64 .f32) (s : Vec Ideal S2x64 .f32) (i : Fin 2048) :
    counts x wn s (ix2 i 0) = Ideal.fptosi 32 (∑ e : Fin 64, gates x wn s (ix2 i e)) := by
  unfold counts gates k0_pay6
  dsimp only
  refine congrArg (Ideal.fptosi 32) ?_
  rw [shapeCast_apply _ _ (ix2 i 0 : S2048x1.Idx) (ix1 i : S2048.Idx) (by
    rw [Shape.rowMajor_val_one, Shape.rowMajor_val_two]; show i.val = i.val * 1 + 0; omega)]
  refine (Ideal.multiReduction_add_single _ _ _ _ _ _).trans ?_
  refine Finset.sum_congr rfl fun e _ => congrArg (k0_pay5 wn (row0 s) (entry1 s) x) (funext fun a => Fin.ext ?_)
  match a with
  | ⟨0, _⟩ => rfl
  | ⟨1, _⟩ => rfl

end Cert.KernelIdeal.BlockValue

end
-- ==== Proof.KernelArray.lean ====
/- What the kernel's two result arrays hold at the end, in terms of its five arguments.

   Point `t` of the grid of four writes rows `2048 t` to `2048 t + 2047` of both arrays, so the four blocks are the whole
   arrays. Every point reads the whole of the other arguments, three of them through a change of shape made before the
   launch; the counts change shape after it. -/
module

public import proofs.«01_k».proof.Proof.BlockValue
public import Idealize.ShloMosaic.Lib.Pipeline.ValueKit
public import Idealize.ShloMosaic.Lib.StableHlo.Run

@[expose] public section

noncomputable section

namespace Cert.KernelIdeal.KernelArray

open Cert.KernelIdeal Cert.KernelIdeal.Gen Cert.KernelIdeal.BlockRun Idealize.ShloMosaic Idealize.ShloMosaic.TcCoe
open Idealize.SL.Sem

variable (m : (ℓ : Loc nD τ sig) → Buf (Elt Ideal) ℓ) (ρ : Dev nD → PrngReg)

/-! ## The arguments, by their coordinates -/

/-- Token `i`'s list of numbers. -/
def token (c : Dev nD) (i : Fin 8192) : Fin 2048 → EReal :=
  fun k => (m ((c.tc : Thread nD τ).loc main_arg0) : Vec Ideal S8192x2048 .f32) (ValueIdx.ix2 i k)
/-- Expert `e`'s list of numbers. -/
def expert (c : Dev nD) (e : Fin 64) : Fin 2048 → EReal :=
  fun k => (m ((c.tc : Thread nD τ).loc main_arg1) : Vec Ideal S2048x64 .f32) (ValueIdx.ix2 k e)
/-- Expert `e`'s gate. -/
def gate (c : Dev nD) (e : Fin 64) : EReal := (m ((c.tc : Thread nD τ).loc main_arg2) : Vec Ideal S64 .f32) (ValueIdx.ix1 e)
/-- Expert `e`'s mask entry. -/
def mask (c : Dev nD) (e : Fin 64) : EReal := (m ((c.tc : Thread nD τ).loc main_arg3) : Vec Ideal S64 .f32) (ValueIdx.ix1 e)
/-- The temperature. -/
def temp (c : Dev nD) : EReal := (m ((c.tc : Thread nD τ).loc main_arg4) : Vec Ideal S1 .f32) (ValueIdx.ix1 0)

/-- The kernel's gate of token `i` and expert `e`. -/
def gateAt (c : Dev nD) (i : Fin 8192) (e : Fin 64) : EReal :=
  Gate.kerGate (Spec.scaled (token m c i) (expert m c e) (temp m c)) (Spec.bound (gate m c e) (temp m c)) (mask m c e)

/-- The kernel's count of token `i`. -/
def countAt (c : Dev nD) (i : Fin 8192) : BitVec 32 := Ideal.fptosi 32 (∑ e : Fin 64, gateAt m c i e)

/-- The array of gates. -/
def gateArray (c : Dev nD) : Vec Ideal S8192x64 .f32 := fun j => gateAt m c (j 0) (j 1)
/-- The column of counts. -/
def countColumn (c : Dev nD) : IVec S8192x1 32 := fun j => countAt m c (j 0)
/-- The list of counts. -/
def countArray (c : Dev nD) : IVec S8192 32 := fun j => countAt m c (j 0)

/-! ## The blocks the points read -/

/-- The gates as the launch finds them. -/
theorem entry_gate (c : Dev nD) : (V m c main_v0 : Vec Ideal S1x64 .f32)
    = shapeCast S1x64 (m ((c.tc : Thread nD τ).loc main_arg2) : Vec Ideal S64 .f32) shapeCasts_S64_S1x64 := by
  unfold V V0
  simp only [List.flatten_cons, List.flatten_nil, List.append_nil]
  after_results
  rfl
/-- The mask as the launch finds it. -/
theorem entry_mask (c : Dev nD) : (V m c main_v1 : Vec Ideal S1x64 .f32)
    = shapeCast S1x64 (m ((c.tc : Thread nD τ).loc main_arg3) : Vec Ideal S64 .f32) shapeCasts_S64_S1x64 := by
  unfold V V0
  simp only [List.flatten_cons, List.flatten_nil, List.append_nil]
  after_results
  rfl
/-- The temperature as the launch finds it. -/
theorem entry_temp (c : Dev nD) : (V m c main_v2 : Vec Ideal S1x1 .f32)
    = shapeCast S1x1 (m ((c.tc : Thread nD τ).loc main_arg4) : Vec Ideal S1 .f32) shapeCasts_S1_S1x1 := by
  unfold V V0
  simp only [List.flatten_cons, List.flatten_nil, List.append_nil]
  after_results
  rfl

/-- The row of the arrays that is row `i` of point `t`'s block. -/
def rowAt (t : Fin cfg0.N) (i : Fin 2048) : Fin 8192 :=
  ⟨t.val * 2048 + i.val, by have h : t.val < 4 := lt_of_lt_of_eq t.isLt N_0; have := i.isLt; omega⟩

/-- The block index of every window at every point: the point's number for the tokens and the two results, else zero. -/
theorem index_tokens : ∀ t : Fin cfg0.N, win0_0.index t = ![t.val, 0] := (by decide +kernel : ∀ t : Fin grid0.N, _)
theorem index_experts : ∀ t : Fin cfg0.N, win0_1.index t = ![0, 0] := (by decide +kernel : ∀ t : Fin grid0.N, _)
theorem index_gate : ∀ t : Fin cfg0.N, win0_2.index t = ![0, 0] := (by decide +kernel : ∀ t : Fin grid0.N, _)
theorem index_mask : ∀ t : Fin cfg0.N, win0_3.index t = ![0, 0] := (by decide +kernel : ∀ t : Fin grid0.N, _)
theorem index_temp : ∀ t : Fin cfg0.N, win0_4.index t = ![0, 0] := (by decide +kernel : ∀ t : Fin grid0.N, _)
theorem index_gates : ∀ t : Fin cfg0.N, win0_5.index t = ![t.val, 0] := (by decide +kernel : ∀ t : Fin grid0.N, _)
theorem index_counts : ∀ t : Fin cfg0.N, win0_6.index t = ![t.val, 0] := (by decide +kernel : ∀ t : Fin grid0.N, _)

/-- Point `t` reads its own rows of the tokens. -/
theorem tokens_apply (c : Dev nD) (t : Fin cfg0.N) (i k : Fin 2048) :
    (iblk m c 0 t : Vec Ideal S2048x2048 .f32) (ValueIdx.ix2 i k) = token m c (rowAt t i) k := by
  unfold iblk token
  rw [View.read_apply]
  show V m c main_arg0 _ = _
  rw [V_main_arg0]
  refine congrArg (m ((c.tc : Thread nD τ).loc main_arg0)) (funext fun a => Fin.ext ?_)
  match a with
  | ⟨0, _⟩ => show win0_0.index t 0 * 2048 + 1 * i.val = t.val * 2048 + i.val; rw [index_tokens]; simp
  | ⟨1, _⟩ => show win0_0.index t 1 * 2048 + 1 * k.val = k.val; rw [index_tokens]; simp

/-- Every point reads the whole expert matrix. -/
theorem experts_read (c : Dev nD) (t : Fin cfg0.N) (k : Fin 2048) (e : Fin 64) :
    (iblk m c 1 t : Vec Ideal S2048x64 .f32) (ValueIdx.ix2 k e) = expert m c e k := by
  unfold iblk expert
  rw [View.read_apply]
  show V m c main_arg1 _ = _
  rw [V_main_arg1]
  refine congrArg (m ((c.tc : Thread nD τ).loc main_arg1)) (funext fun a => Fin.ext ?_)
  match a with
  | ⟨0, _⟩ => show win0_1.index t 0 * 2048 + 1 * k.val = k.val; rw [index_experts]; simp
  | ⟨1, _⟩ => show win0_1.index t 1 * 64 + 1 * e.val = e.val; rw [index_experts]; simp

/-- A list of sixty-four read as one row of sixty-four. -/
theorem asRow_apply (v : Vec Ideal S64 .f32) (j : S1x64.Idx) (e : Fin 64) (he : (j 1).val = e.val) :
    shapeCast S1x64 v shapeCasts_S64_S1x64 j = v (ValueIdx.ix1 e) :=
  shapeCast_apply v _ j (ValueIdx.ix1 e : S64.Idx) (by
    have h0 : (j 0).val < 1 := (j 0).isLt
    rw [Shape.rowMajor_val_one, Shape.rowMajor_val_two]
    show e.val = (j 0).val * 64 + (j 1).val
    omega)

/-- Every point reads all the gates. -/
theorem gate_read (c : Dev nD) (t : Fin cfg0.N) (e : Fin 64) :
    (iblk m c 2 t : Vec Ideal S1x64 .f32) (ValueIdx.ix2 0 e) = gate m c e := by
  unfold iblk gate
  rw [View.read_apply]
  show (V m c main_v0 : Vec Ideal S1x64 .f32) _ = _
  rw [entry_gate]
  refine asRow_apply _ _ e ?_
  show win0_2.index t 1 * 64 + 1 * e.val = e.val
  rw [index_gate]; simp

/-- Every point reads the whole mask. -/
theorem mask_read (c : Dev nD) (t : Fin cfg0.N) (e : Fin 64) :
    (iblk m c 3 t : Vec Ideal S1x64 .f32) (ValueIdx.ix2 0 e) = mask m c e := by
  unfold iblk mask
  rw [View.read_apply]
  show (V m c main_v1 : Vec Ideal S1x64 .f32) _ = _
  rw [entry_mask]
  refine asRow_apply _ _ e ?_
  show win0_3.index t 1 * 64 + 1 * e.val = e.val
  rw [index_mask]; simp

/-- Every point reads the temperature. -/
theorem temp_read (c : Dev nD) (t : Fin cfg0.N) : (iblk m c 4 t : Vec Ideal S1x1 .f32) (ValueIdx.ix2 0 0) = temp m c := by
  unfold iblk temp
  rw [View.read_apply]
  show (V m c main_v2 : Vec Ideal S1x1 .f32) _ = _
  rw [entry_temp]
  refine shapeCast_apply _ _ _ (ValueIdx.ix1 0 : S1.Idx) ?_
  rw [Shape.rowMajor_val_one, Shape.rowMajor_val_two]
  show 0 = (win0_4.index t 0 * 1 + 1 * 0) * 1 + (win0_4.index t 1 * 1 + 1 * 0)
  rw [index_temp]; simp

/-! ## The blocks the points write -/

/-- Point `t`'s gates are the gates of its own rows. -/
theorem block_gates (c : Dev nD) (t : Fin cfg0.N) (i : Fin 2048) (e : Fin 64) :
    gates (iblk m c 0 t) (experts m c) (launchTable m c) (ValueIdx.ix2 i e) = gateAt m c (rowAt t i) e := by
  unfold experts launchTable gateAt
  rw [BlockValue.gates_apply, gate_read, mask_read, temp_read]
  simp only [tokens_apply, experts_read]

/-- Point `t`'s counts are the counts of its own rows. -/
theorem block_counts (c : Dev nD) (t : Fin cfg0.N) (i : Fin 2048) :
    counts (iblk m c 0 t) (experts m c) (launchTable m c) (ValueIdx.ix2 i 0) = countAt m c (rowAt t i) := by
  rw [BlockValue.counts_apply]
  unfold countAt
  simp only [block_gates]

/-! ## The arrays -/

/-- THE ARRAY OF GATES after the launch. -/
theorem final_gates (c : Dev nD) : (dats m 0 c).arrAt 5 cfg0.N = gateArray m c := by
  refine (dats m 0 c).arrAt_eq_of_covers 5 _ (by decide +kernel) fun t hf y => ?_
  show ((dats m 0 c).after 5 t : Vec Ideal S2048x64 .f32) y = _
  rw [after0_5, after_point]
  have hy : (y : S2048x64.Idx) = ValueIdx.ix2 (y 0) (y 1) := ValueIdx.eq_ix2 y
  refine ((congrArg (gates (iblk m c 0 t) (experts m c) (launchTable m c)) hy).trans (block_gates m c t (y 0) (y 1))).trans ?_
  refine congrArg₂ (gateAt m c) (Fin.ext ?_) (Fin.ext ?_)
  · show t.val * 2048 + (y 0).val = win0_5.index t 0 * 2048 + 1 * (y 0).val
    rw [index_gates]; simp
  · show (y 1).val = win0_5.index t 1 * 64 + 1 * (y 1).val
    rw [index_gates]; simp

/-- THE COLUMN OF COUNTS after the launch. -/
theorem final_counts (c : Dev nD) : (dats m 0 c).arrAt 6 cfg0.N = countColumn m c := by
  refine (dats m 0 c).arrAt_eq_of_covers 6 _ (by decide +kernel) fun t hf y => ?_
  show ((dats m 0 c).after 6 t : IVec S2048x1 32) y = _
  rw [after0_6, after_point]
  have hy : (y : S2048x1.Idx) = ValueIdx.ix2 (y 0) 0 := by
    funext a
    match a with
    | ⟨0, _⟩ => rfl
    | ⟨1, _⟩ => exact Fin.ext (by have : (y 1).val < 1 := (y 1).isLt; show (y 1).val = 0; omega)
  refine ((congrArg (counts (iblk m c 0 t) (experts m c) (launchTable m c)) hy).trans (block_counts m c t (y 0))).trans ?_
  refine congrArg (countAt m c) (Fin.ext ?_)
  show t.val * 2048 + (y 0).val = win0_6.index t 0 * 2048 + 1 * (y 0).val
  rw [index_counts]; simp

/-- THE LIST OF COUNTS after the change of shape that follows the launch. -/
theorem final_list (c : Dev nD) :
    (Pipeline.afterTail₀ cfgs (dats m) 0 (V0 m) [hostOps1] c main_v4 : IVec S8192 32) = countArray m c := by
  have h : (Pipeline.afterTail₀ cfgs (dats m) 0 (V0 m) [hostOps1] c main_v4 : IVec S8192 32)
      = shapeCast S8192 (Pipeline.withArrays spec0 c (V0 m c) (fun w => (dats m 0 c).arrAt w cfg0.N) (Proc.devRef .tc main_v3_1) : IVec S8192x1 32)
          shapeCasts_S8192x1_S8192 := by
    unfold Pipeline.afterTail₀
    simp only [List.flatten_cons, List.flatten_nil, List.append_nil]
    after_results
    rfl
  rw [h]
  have ha : (Pipeline.withArrays spec0 c (V0 m c) (fun w => (dats m 0 c).arrAt w cfg0.N) (Proc.devRef .tc main_v3_1) : IVec S8192x1 32)
      = countColumn m c :=
    (Pipeline.withArrays_arr spec0 launch0.win.arr_inj c (V0 m c) (fun w => (dats m 0 c).arrAt w cfg0.N) 6).trans (final_counts m c)
  rw [ha]
  funext j
  refine (shapeCast_apply _ _ j (ValueIdx.ix2 (j 0) 0 : S8192x1.Idx) ?_).trans rfl
  rw [Shape.rowMajor_val_one, Shape.rowMajor_val_two]
  show (j 0).val * 1 + 0 = (j 0).val
  omega

/-- THE RUN: the gates and the counts at the end of every run of the kernel, its arguments unchanged. -/
theorem run : θ_run defs (onTc (τ := τ) (main (F := Ideal))) ⟨m, fun _ => 0, ρ⟩ (fun r => ∀ c : Dev nD,
      r.2.mem ((c.tc : Thread nD τ).loc main_v3_0) = gateArray m c
      ∧ r.2.mem ((c.tc : Thread nD τ).loc main_v4) = countArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 5).trans (final_gates m c),
     ((h c).2 main_v4 (Pipeline.mem_restRefs_of main_v4 (by decide) (by decide))).trans (final_list m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c))),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c)⟩)
    (run_main m ρ)

end Cert.KernelIdeal.KernelArray

end
-- ==== Proof.RefValue.lean ====
/- What the reference computes, read entry by entry on the extended reals: the gate of a token and an expert is the
   reference's gate at their scaled similarity, the expert's scaled gate and its mask entry; the count of a token is the
   word sum of its positive gates. -/
module

public import proofs.«01_k».proof.Proof.Gen.ReferenceIdeal.Read
public import proofs.«01_k».proof.Proof.Spec
public import proofs.«01_k».proof.Proof.Gate
public import Idealize.ShloMosaic.Lib.IdealHost
public import Idealize.ShloMosaic.PureOps.Reduce

@[expose] public section

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx (ix1 ix2)

variable (x0 : (⟨S8192x2048, .f32⟩ : BufTy).Contents (Elt Ideal)) (x1 : (⟨S2048x64, .f32⟩ : BufTy).Contents (Elt Ideal))
  (x2 x3 : (⟨S64, .f32⟩ : BufTy).Contents (Elt Ideal)) (x4 : (⟨S1, .f32⟩ : BufTy).Contents (Elt Ideal))

/-- A token's list of numbers. -/
abbrev token (i : Fin 8192) : Fin 2048 → EReal := fun k => x0 (ix2 i k)

/-- An expert's list of numbers. -/
abbrev expert (e : Fin 64) : Fin 2048 → EReal := fun k => x1 (ix2 k e)

/-- The temperature. -/
abbrev temp : EReal := x4 (ix1 0)

/-- The length of a token. -/
theorem token_length (i : Fin 8192) : val_main_v5 (F := Ideal) x0 (ix2 i 0) = Spec.length (token x0 i) := by
  rw [val_main_v5_apply, val_main_v3_apply, val_main_call0_v2_apply, val_main_call0_v1_apply, val_main_v4_apply, val_main_cst_0_apply,
    val_main_call0_cst_apply]
  unfold Spec.length Spec.floor
  rw [Ideal.ofBits_def, Ideal.ofBits_def, Ideal.ofBits_zero_f32, zero_add]
  refine congrArg (fun z => max (Ideal.sqrt z) _) (Finset.sum_congr rfl fun k _ => ?_)
  have h : idx_main_call0_v1 (idx_main_call0_v2 (ix2 i 0)) k = ix2 i k := by
    funext a
    match a with
    | ⟨0, _⟩ => rfl
    | ⟨1, _⟩ => rfl
  rw [h]
  rfl

/-- The length of an expert. -/
theorem expert_length (e : Fin 64) : val_main_v10 (F := Ideal) x1 (ix2 0 e) = Spec.length (expert x1 e) := by
  rw [val_main_v10_apply, val_main_v8_apply, val_main_call1_v2_apply, val_main_call1_v1_apply, val_main_v9_apply, val_main_cst_1_apply,
    val_main_call1_cst_apply]
  unfold Spec.length Spec.floor
  rw [Ideal.ofBits_def, Ideal.ofBits_def, Ideal.ofBits_zero_f32, zero_add]
  refine congrArg (fun z => max (Ideal.sqrt z) _) (Finset.sum_congr rfl fun k _ => ?_)
  have h : idx_main_call1_v1 (idx_main_call1_v2 (ix2 0 e)) k = ix2 k e := by
    funext a
    match a with
    | ⟨0, _⟩ => rfl
    | ⟨1, _⟩ => rfl
  rw [h]
  rfl

/-- The similarity of a token and an expert. -/
theorem similarity_eq (i : Fin 8192) (e : Fin 64) :
    val_main_v13 (F := Ideal) x0 x1 (ix2 i e) = Spec.similarity (token x0 i) (expert x1 e) := by
  rw [val_main_v13_apply]
  unfold Spec.similarity
  refine Finset.sum_congr rfl fun k _ => ?_
  have hl : lidx_main_v13 (ix2 i e) k = ix2 i k := by
    funext a
    match a with
    | ⟨0, _⟩ => rfl
    | ⟨1, _⟩ => rfl
  have hr : ridx_main_v13 (ix2 i e) k = ix2 k e := by
    funext a
    match a with
    | ⟨0, _⟩ => rfl
    | ⟨1, _⟩ => rfl
  have h6 : idx_main_v6 (ix2 i k) = ix2 i 0 := by
    funext a
    match a with
    | ⟨0, _⟩ => rfl
    | ⟨1, _⟩ => rfl
  have h11 : idx_main_v11 (ix2 k e) = ix2 0 e := by
    funext a
    match a with
    | ⟨0, _⟩ => rfl
    | ⟨1, _⟩ => rfl
  rw [hl, hr, val_main_v7_apply, val_main_v12_apply, val_main_v6_apply, val_main_v11_apply, h6, h11, token_length, expert_length]
  rfl

/-- The scale. -/
theorem scale_eq (i : S1.Idx) : val_main_v2 (F := Ideal) x4 i = Spec.scale (temp x4) := by
  have hi : i = ix1 0 := by
    funext a
    match a with
    | ⟨0, _⟩ => exact Fin.ext (by have : (i 0).val < 1 := (i 0).isLt; show (i 0).val = 0; omega)
  subst hi
  rfl

/-- The logistic value of the scaled similarity of a token and an expert. -/
theorem logi_scaled (i : Fin 8192) (e : Fin 64) :
    val_main_v22 (F := Ideal) x0 x1 x4 (ix2 i e) = Gate.logi (Spec.scaled (token x0 i) (expert x1 e) (temp x4)) := by
  have h : val_main_v16 (F := Ideal) x0 x1 x4 (ix2 i e) = Spec.scaled (token x0 i) (expert x1 e) (temp x4) := by
    rw [val_main_v16_apply, similarity_eq, val_main_v15_apply, val_main_v14_apply, scale_eq]
    rfl
  rw [val_main_v22_apply, val_main_v21_apply, val_main_cst_3_apply, val_main_v20_apply, val_main_v19_apply, val_main_cst_2_apply,
    val_main_v18_apply, val_main_v17_apply, h, Ideal.ofBits_def, Ideal.ofBits_one_f32]
  rfl

/-- The logistic value of an expert's scaled gate. -/
theorem logi_bound (j : S8192x64.Idx) (e : Fin 64) (he : (j 1).val = e.val) :
    val_main_v35 (F := Ideal) x2 x4 j = Gate.logi (Spec.bound (x2 (ix1 e)) (temp x4)) := by
  have hj : idx_main_v34 (idx_main_v35 j) = ix1 e := by
    funext a
    match a with
    | ⟨0, _⟩ => exact Fin.ext he
  rw [val_main_v35_apply, val_main_v34_apply, hj, val_main_v33_apply, val_main_v32_apply, val_main_cst_5_apply, val_main_v31_apply,
    val_main_v30_apply, val_main_cst_4_apply, val_main_v29_apply, val_main_v28_apply, val_main_v27_apply, val_main_v26_apply, scale_eq,
    Ideal.ofBits_def, Ideal.ofBits_one_f32]
  rfl

/-- The excess of a token and an expert. -/
theorem excess_eq (i : Fin 8192) (e : Fin 64) :
    val_main_v37 (F := Ideal) x0 x1 x2 x3 x4 (ix2 i e)
      = Gate.excess (Spec.scaled (token x0 i) (expert x1 e) (temp x4)) (Spec.bound (x2 (ix1 e)) (temp x4)) (x3 (ix1 e)) := by
  have hm : idx_main_v23 (idx_main_v24 (ix2 i e)) = ix1 e := by
    funext a
    match a with
    | ⟨0, _⟩ => rfl
  rw [val_main_v37_apply, val_main_v36_apply, val_main_v25_apply, logi_scaled, val_main_v24_apply, val_main_v23_apply, hm,
    logi_bound x2 x4 (ix2 i e) e rfl, val_main_call2_v0_apply, val_main_call2_cst_apply, Ideal.ofBits_def, Ideal.ofBits_zero_f32]
  rfl

/-- THE REFERENCE'S GATES: the first result's entry for a token and an expert. -/
theorem gate_eq (i : Fin 8192) (e : Fin 64) :
    val_main_v40 (F := Ideal) x0 x1 x2 x3 x4 (ix2 i e)
      = Gate.refGate (Spec.scaled (token x0 i) (expert x1 e) (temp x4)) (Spec.bound (x2 (ix1 e)) (temp x4)) (x3 (ix1 e)) := by
  rw [val_main_v40_apply, val_main_v39_apply, val_main_v38_apply, excess_eq]
  rfl

/-- The bit that says whether a gate is positive. -/
theorem positive_eq (i : Fin 8192) (e : Fin 64) :
    val_main_v42 (F := Ideal) x0 x1 x2 x3 x4 (ix2 i e) = BitVec.ofBool (decide (0 < val_main_v40 (F := Ideal) x0 x1 x2 x3 x4 (ix2 i e))) := by
  rw [val_main_v42_apply, val_main_v41_apply, val_main_cst_6_apply, Ideal.ofBits_def, Ideal.ofBits_zero_f32]
  generalize val_main_v40 (F := Ideal) x0 x1 x2 x3 x4 (ix2 i e) = z
  rfl

/-- THE REFERENCE'S COUNTS: the second result's entry for a token, the word sum over the experts of the bits of its
    positive gates. -/
theorem count_eq (i : Fin 8192) :
    val_main_v44 (F := Ideal) x0 x1 x2 x3 x4 (ix1 i)
      = Finset.univ.fold IntOp.addi (0#32) (fun e : Fin 64 => (val_main_v42 (F := Ideal) x0 x1 x2 x3 x4 (ix2 i e)).setWidth 32) := by
  unfold val_main_v44
  have hr : S8192x64.Reduces [1] S8192 := by decide
  rw [Host.reduce_eq_fold_single IntOp.addi _ _ reducesTo_S8192x64_S8192_d1 hr h_S_ (ix1 i)]
  have hc : val_main_c (F := Ideal) (Shape.Idx.first h_S_) = 0#32 := rfl
  rw [hc]
  refine Finset.fold_congr fun e _ => ?_
  have hl : hr.lift (ix1 i : S8192.Idx) e = (ix2 i e : S8192x64.Idx) := by
    funext a
    match a with
    | ⟨0, _⟩ => rfl
    | ⟨1, _⟩ => rfl
  rw [Function.comp_apply, hl, val_main_v43_apply]

end Cert.ReferenceIdeal.RefValue

end
-- ==== Proof.Count.lean ====
/- Counting the experts of a token in two ways.

   The kernel adds up sixty-four floats, each zero or one, and rounds the sum to a 32-bit word; the reference widens
   sixty-four one-bit words to 32 bits and adds those. Both are the number of ones, as a 32-bit word. -/
module

public import Idealize.ShloMosaic.PureOps.Ideal
public import Idealize.ShloMosaic.PureOps.Ideal.Laws
public import Idealize.ShloMosaic.PureOps.Reduce
public import Idealize.ShloMosaic.Lib.IndicatorCount

@[expose] public section

noncomputable section

namespace Cert.Count

open Idealize.ShloMosaic

variable {ι : Type} [Fintype ι]

/-- A sum of extended reals that are each zero or one is the number of ones. -/
theorem sum_indicator (p : ι → Prop) [DecidablePred p] :
    (∑ i, if p i then (1 : EReal) else 0) = (((Finset.univ.filter p).card : ℝ) : EReal) := by
  rw [Finset.sum_ite, Finset.sum_const_zero, add_zero, Finset.sum_const, nsmul_one]
  norm_cast

/-- A number below `2 ^ 31` rounds to itself as a 32-bit word. -/
theorem fptosi_natCast {n : Nat} (hn : n < 2 ^ 31) : Ideal.fptosi 32 ((n : ℝ) : EReal) = BitVec.ofNat 32 n := by
  have h0 : (0 : ℝ) ≤ (n : ℝ) := Nat.cast_nonneg n
  unfold Ideal.fptosi
  rw [Ideal.toIntClamped_coe, if_pos h0, Int.floor_natCast, min_eq_right (by push_cast; omega), max_eq_right (by push_cast; omega)]
  exact BitVec.ofInt_natCast 32 n

/-- The rounded float sum of the indicators of `p` and the word sum of the one-bit words `b`, where `b` is one exactly
    where `p` holds, are the same word. -/
theorem fptosi_sum_eq_fold (p : ι → Prop) [DecidablePred p] (b : ι → BitVec 1) (hb : ∀ i, b i = 1#1 ↔ p i)
    (hn : Fintype.card ι < 2 ^ 31) :
    Ideal.fptosi 32 (∑ i, if p i then (1 : EReal) else 0)
      = Finset.univ.fold IntOp.addi (0#32) (fun i => (b i).setWidth 32) := by
  rw [sum_indicator, fptosi_natCast (lt_of_le_of_lt (Finset.card_le_univ _) hn), IndicatorCount.fold_addi_setWidth_eq_card]
  exact congrArg (fun s : Finset ι => BitVec.ofNat 32 s.card) (Finset.filter_congr fun i _ => (hb i).symm)

end Cert.Count

end
-- ==== Proof.Equation.lean ====
/- The equation: where every mask entry is off or one, the reference's two results are the kernel's two results, from
   memories that agree on the arguments. -/
module

public import proofs.«01_k».proof.Proof.KernelArray
public import proofs.«01_k».proof.Proof.RefValue
public import proofs.«01_k».proof.Proof.Count
public import proofs.«01_k».proof.Pre_mask_is_off_or_one
public import Idealize.ShloMosaic.Lib.IdealHost

@[expose] public section

noncomputable section

namespace Cert.Equation

open Idealize.ShloMosaic Idealize.ShloMosaic.TcCoe
open Cert.KernelIdeal.KernelArray

/-! ## The precondition -/

/-- The one fact the precondition's text asks for: a single number may be repeated over the experts. -/
theorem maskFacts : Cert.Pre_mask_is_off_or_one.Facts := ⟨by decide⟩

/-- An «or» of two one-bit truth values is one exactly if one of them holds. -/
theorem either_of_or (p q : Prop) [Decidable p] [Decidable q]
    (h : IntOp.ori (BitVec.ofBool (decide p)) (BitVec.ofBool (decide q)) = 1#1) : p ∨ q := by
  by_cases hp : p
  · exact .inl hp
  · by_cases hq : q
    · exact .inr hq
    · rw [decide_eq_false hp, decide_eq_false hq] at h
      exact absurd h (by decide)

/-- The precondition says of each expert that its mask entry is not positive or is one. -/
theorem mask_of_pre [hp : Cert.Pre_mask_is_off_or_one.Facts] (x0 : FVec Ideal ⟨2, ![8192, 2048]⟩ .f32) (x1 : FVec Ideal ⟨2, ![2048, 64]⟩ .f32)
    (x2 x3 : FVec Ideal ⟨1, ![64]⟩ .f32) (x4 : FVec Ideal ⟨1, ![1]⟩ .f32)
    (h : Cert.Pre_mask_is_off_or_one.fn (F := Ideal) x0 x1 x2 x3 x4 = fun _ => 1#1) (e : Fin 64) :
    (x3 (ValueIdx.ix1 e) : EReal) ≤ 0 ∨ (x3 (ValueIdx.ix1 e) : EReal) = 1 := by
  have he := congrFun h (ValueIdx.ix1 e)
  have hb : IntOp.ori (BitVec.ofBool (decide ((x3 (ValueIdx.ix1 e) : EReal) ≤ Ideal.ofBits .f32 0x00000000#32)))
      (BitVec.ofBool (decide ((x3 (ValueIdx.ix1 e) : EReal) = Ideal.ofBits .f32 0x3F800000#32))) = 1#1 := he
  rw [Ideal.ofBits_zero_f32, Ideal.ofBits_one_f32] at hb
  exact either_of_or _ _ hb

/-! ## The reference's values, as functions of the kernel's arguments -/

section

variable (m : (ℓ : Loc Cert.KernelIdeal.nD Cert.KernelIdeal.τ Cert.KernelIdeal.sig) → Buf (Elt Ideal) ℓ)
  (c : Dev Cert.KernelIdeal.nD)

/-- The reference's gates at the kernel's arguments. -/
def refGates : FVec Ideal ⟨2, ![8192, 64]⟩ .f32 :=
  Cert.ReferenceIdeal.Read.val_main_v40 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- The reference's counts at the kernel's arguments. -/
def refCounts : IVec ⟨1, ![8192]⟩ 32 :=
  Cert.ReferenceIdeal.Read.val_main_v44 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

/-- One gate: the reference's is the kernel's. -/
theorem gate_eq (hk : ∀ e, mask m c e ≤ 0 ∨ mask m c e = 1) (i : Fin 8192) (e : Fin 64) :
    refGates m c (ValueIdx.ix2 i e) = gateAt m c i e :=
  (Cert.ReferenceIdeal.RefValue.gate_eq _ _ _ _ _ i e).trans (Gate.refGate_eq_kerGate (hk e))

/-- One count: the reference's is the kernel's. -/
theorem count_eq (hk : ∀ e, mask m c e ≤ 0 ∨ mask m c e = 1) (i : Fin 8192) :
    refCounts m c (ValueIdx.ix1 i) = countAt m c i := by
  refine (Cert.ReferenceIdeal.RefValue.count_eq _ _ _ _ _ i).trans ?_
  have hpos : ∀ e : Fin 64, Cert.ReferenceIdeal.Read.val_main_v42 (F := Ideal) _ _ _ _ _ (ValueIdx.ix2 i e)
      = BitVec.ofBool (decide (0 < gateAt m c i e)) := fun e =>
    (Cert.ReferenceIdeal.RefValue.positive_eq _ _ _ _ _ i e).trans
      (congrArg (fun z : EReal => BitVec.ofBool (decide (0 < z))) (gate_eq m c hk i e))
  have hfold := Count.fptosi_sum_eq_fold
    (fun e : Fin 64 => (if 0 < mask m c e then Spec.bound (gate m c e) (temp m c) else ⊤)
      < Spec.scaled (token m c i) (expert m c e) (temp m c))
    (fun e => BitVec.ofBool (decide (0 < gateAt m c i e)))
    (fun e => by
      rw [← Gate.kerGate_pos_iff]
      by_cases h : 0 < gateAt m c i e
      · rw [decide_eq_true h]; exact ⟨fun _ => h, fun _ => rfl⟩
      · rw [decide_eq_false h]; exact ⟨fun h' => absurd h' (by decide), fun h' => absurd h' h⟩)
    (by decide)
  refine Eq.trans (Finset.fold_congr fun e _ => congrArg (BitVec.setWidth 32) (hpos e)) (hfold.symm.trans ?_)
  rfl

/-- THE GATES: the reference's array is the kernel's. -/
theorem gates_eq (hk : ∀ e, mask m c e ≤ 0 ∨ mask m c e = 1) : refGates m c = gateArray m c := by
  funext j
  rw [ValueIdx.eq_ix2 j]
  exact gate_eq m c hk (j 0) (j 1)

/-- THE COUNTS: the reference's list is the kernel's. -/
theorem counts_eq (hk : ∀ e, mask m c e ≤ 0 ∨ mask m c e = 1) : refCounts m c = countArray m c := by
  funext j
  rw [ValueIdx.eq_ix1 j]
  exact count_eq m c hk (j 0)

end

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Read
public import proofs.«01_k».proof.Proof.Equation
public import Idealize.ShloMosaic.Adequacy
public import Idealize.ShloMosaic.Init

@[expose] public section

noncomputable section

namespace Cert.Proof

open Idealize.ShloMosaic Idealize.SL.Sem

/-- The kernel as it stands runs, and ends with its arguments unchanged and every semaphore at zero. -/
theorem kernel_frame : Cert.quiescent_Kernel (hKernel := Cert.Kernel.Gen.facts) :=
  fun m g _ => Cert.Kernel.Gen.frame (F := Bits) m g

/-- So does the kernel on extended reals. -/
theorem ideal_frame : Cert.quiescent_KernelIdeal (hKernelIdeal := Cert.KernelIdeal.Gen.facts) :=
  fun m g _ => Cert.KernelIdeal.Gen.frame (F := Ideal) m g

/-- So does the reference on extended reals: its program holds no semaphore at all. -/
theorem reference_frame : Cert.quiescent_ReferenceIdeal (hReferenceIdeal := Cert.ReferenceIdeal.Gen.facts) :=
  fun m g _ => (θ_run Cert.ReferenceIdeal.defs _ _).mono
    (fun r h => ⟨fun c => (h c).2.2, sem_eq_zero_of_no_sems (by decide) r.2⟩)
    (Cert.ReferenceIdeal.Value.run (F := Ideal) m g)

/-- Where every mask entry is off or one, the kernel and the reference end with the same gates and the same counts. -/
theorem values : Cert.algebraic_KernelIdeal_ReferenceIdeal_pre_mask_is_off_or_one (hKernelIdeal := Cert.KernelIdeal.Gen.facts)
    (hReferenceIdeal := Cert.ReferenceIdeal.Gen.facts) (hPre_mask_is_off_or_one := Cert.Equation.maskFacts) := by
  intro m g m' g' hpre hargs
  have hk : ∀ c e, Cert.KernelIdeal.KernelArray.mask m c e ≤ 0 ∨ Cert.KernelIdeal.KernelArray.mask m c e = 1 :=
    fun c e => Cert.Equation.mask_of_pre (hp := Cert.Equation.maskFacts) _ _ _ _ _ (hpre c) e
  refine ⟨Cert.KernelIdeal.KernelArray.gateArray m, Cert.KernelIdeal.KernelArray.countArray m,
    Cert.KernelIdeal.KernelArray.run m g, (θ_run Cert.ReferenceIdeal.defs _ _).mono (fun r h c => ?_)
      (Cert.ReferenceIdeal.Value.run (F := Ideal) m' g')⟩
  obtain ⟨a0, a1, a2, a3, a4⟩ := hargs c
  refine ⟨(h c).1.trans ?_, (h c).2.1.trans ?_, (h c).2.2⟩
  · rw [Cert.ReferenceIdeal.Read.val_main_v40_eq, a0, a1, a2, a3, a4]
    exact Cert.Equation.gates_eq m c (hk c)
  · rw [Cert.ReferenceIdeal.Read.val_main_v44_eq, a0, a1, a2, a3, a4]
    exact Cert.Equation.counts_eq m c (hk c)

/-- Everything this directory claims. -/
theorem claim : Cert.Claim :=
  ⟨Cert.Kernel.Gen.facts, Cert.KernelIdeal.Gen.facts, Cert.ReferenceIdeal.Gen.facts, Cert.Equation.maskFacts,
    kernel_frame, ideal_frame, fun m g _ => ideal_frame m g trivial, reference_frame,
    fun m g _ => reference_frame m g trivial, trivial, values⟩

end Cert.Proof

end
